-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "inv_dh" .f32 0x3AAAAAAB#32 ((768⁻¹ : ℝ) : EReal)

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S4x4096x64 : Shape := ⟨3, ![4, 4096, 64]⟩
abbrev S4x4096 : Shape := ⟨2, ![4, 4096]⟩
abbrev S768x64 : Shape := ⟨2, ![768, 64]⟩
abbrev S768 : Shape := ⟨1, ![768]⟩
abbrev S8192x768 : Shape := ⟨2, ![8192, 768]⟩
abbrev S3x768 : Shape := ⟨2, ![3, 768]⟩
abbrev S257x768 : Shape := ⟨2, ![257, 768]⟩
abbrev S_ : Shape := ⟨0, ![]⟩
abbrev S4096x768 : Shape := ⟨2, ![4096, 768]⟩
abbrev S2x768 : Shape := ⟨2, ![2, 768]⟩
abbrev S1x768 : Shape := ⟨2, ![1, 768]⟩

class Facts : Prop where
  bcast_S_S4x4096 : S_.BroadcastsInDim S4x4096 (![] : Fin 0 → Fin S4x4096.rank)
  reducesTo_S4x4096_S_d0_1 : S4x4096.ReducesTo [0, 1] S_
  h_S_ : 0 < S_.numel
  bcast_S_S768 : S_.BroadcastsInDim S768 (![] : Fin 0 → Fin S768.rank)
  reducesTo_S768_S_d0 : S768.ReducesTo [0] S_
  bcast_S_S4x4096x64 : S_.BroadcastsInDim S4x4096x64 (![] : Fin 0 → Fin S4x4096x64.rank)
  reducesTo_S4x4096x64_S_d0_1_2 : S4x4096x64.ReducesTo [0, 1, 2] S_
  bcast_S_S768x64 : S_.BroadcastsInDim S768x64 (![] : Fin 0 → Fin S768x64.rank)
  reducesTo_S768x64_S_d0_1 : S768x64.ReducesTo [0, 1] S_
  slices_S8192x768_S4096x768_0_0 : S8192x768.Slices ![0, 0] S4096x768
  bcast_S_S4096x768 : S_.BroadcastsInDim S4096x768 (![] : Fin 0 → Fin S4096x768.rank)
  reducesTo_S4096x768_S_d0_1 : S4096x768.ReducesTo [0, 1] S_
  slices_S3x768_S2x768_1_0 : S3x768.Slices ![1, 0] S2x768
  bcast_S_S2x768 : S_.BroadcastsInDim S2x768 (![] : Fin 0 → Fin S2x768.rank)
  reducesTo_S2x768_S_d0_1 : S2x768.ReducesTo [0, 1] S_
  slices_S257x768_S1x768_0_0 : S257x768.Slices ![0, 0] S1x768
  bcast_S_S1x768 : S_.BroadcastsInDim S1x768 (![] : Fin 0 → Fin S1x768.rank)
  reducesTo_S1x768_S_d0_1 : S1x768.ReducesTo [0, 1] S_

variable [Facts]

def fn_part2 {F : FTy → Type} [FloatOps F] (main_arg6 : FVec F S3x768 .f32) (main_arg7 : FVec F S257x768 .f32) (main_v29 : IVec S_ 1) (main_v31 : FVec F S4096x768 .f32) (main_v32 : FVec F S4096x768 .f32) : IVec S_ 1 :=
  let main_v33 : IVec S4096x768 1 := cmpf .olt main_v31 main_v32
  let main_c_13 : IVec S_ 1 := constantI S_ 1 1#1
  let main_v34 : IVec S_ 1 := (fun x v => Host.reduce IntOp.andi x v reducesTo_S4096x768_S_d0_1 h_S_) main_v33 main_c_13
  let main_v35 : IVec S_ 1 := andi main_v29 main_v34
  let main_v36 : FVec F S2x768 .f32 := (extractStridedSlice S2x768 ![1, 0] · slices_S3x768_S2x768_1_0) main_arg6
  let main_v37 : FVec F S2x768 .f32 := Host.absf main_v36
  let main_cst_14 : FVec F S_ .f32 := constant S_ .f32 0x7F800000#32
  let main_v38 : FVec F S2x768 .f32 := broadcastInDim S2x768 ![] bcast_S_S2x768 main_cst_14
  let main_v39 : IVec S2x768 1 := cmpf .olt main_v37 main_v38
  let main_c_15 : IVec S_ 1 := constantI S_ 1 1#1
  let main_v40 : IVec S_ 1 := (fun x v => Host.reduce IntOp.andi x v reducesTo_S2x768_S_d0_1 h_S_) main_v39 main_c_15
  let main_v41 : IVec S_ 1 := andi main_v35 main_v40
  let main_v42 : FVec F S1x768 .f32 := (extractStridedSlice S1x768 ![0, 0] · slices_S257x768_S1x768_0_0) main_arg7
  let main_v43 : FVec F S1x768 .f32 := Host.absf main_v42
  let main_cst_16 : FVec F S_ .f32 := constant S_ .f32 0x7F800000#32
  let main_v44 : FVec F S1x768 .f32 := broadcastInDim S1x768 ![] bcast_S_S1x768 main_cst_16
  let main_v45 : IVec S1x768 1 := cmpf .olt main_v43 main_v44
  let main_c_17 : IVec S_ 1 := constantI S_ 1 1#1
  let main_v46 : IVec S_ 1 := (fun x v => Host.reduce IntOp.andi x v reducesTo_S1x768_S_d0_1 h_S_) main_v45 main_c_17
  let main_v47 : IVec S_ 1 := andi main_v41 main_v46
  main_v47

def fn_part1 {F : FTy → Type} [FloatOps F] (main_arg3 : FVec F S768x64 .f32) (main_arg4 : FVec F S768 .f32) (main_arg5 : FVec F S8192x768 .f32) (main_arg6 : FVec F S3x768 .f32) (main_arg7 : FVec F S257x768 .f32) (main_v14 : IVec S_ 1) (main_v15 : FVec F S4x4096x64 .f32) : IVec S_ 1 :=
  let main_cst_6 : FVec F S_ .f32 := constant S_ .f32 0x7F800000#32
  let main_v16 : FVec F S4x4096x64 .f32 := broadcastInDim S4x4096x64 ![] bcast_S_S4x4096x64 main_cst_6
  let main_v17 : IVec S4x4096x64 1 := cmpf .olt main_v15 main_v16
  let main_c_7 : IVec S_ 1 := constantI S_ 1 1#1
  let main_v18 : IVec S_ 1 := (fun x v => Host.reduce IntOp.andi x v reducesTo_S4x4096x64_S_d0_1_2 h_S_) main_v17 main_c_7
  let main_v19 : IVec S_ 1 := andi main_v14 main_v18
  let main_v20 : FVec F S768x64 .f32 := Host.absf main_arg3
  let main_cst_8 : FVec F S_ .f32 := constant S_ .f32 0x7F800000#32
  let main_v21 : FVec F S768x64 .f32 := broadcastInDim S768x64 ![] bcast_S_S768x64 main_cst_8
  let main_v22 : IVec S768x64 1 := cmpf .olt main_v20 main_v21
  let main_c_9 : IVec S_ 1 := constantI S_ 1 1#1
  let main_v23 : IVec S_ 1 := (fun x v => Host.reduce IntOp.andi x v reducesTo_S768x64_S_d0_1 h_S_) main_v22 main_c_9
  let main_v24 : IVec S_ 1 := andi main_v19 main_v23
  let main_v25 : FVec F S768 .f32 := Host.absf main_arg4
  let main_cst_10 : FVec F S_ .f32 := constant S_ .f32 0x7F800000#32
  let main_v26 : FVec F S768 .f32 := broadcastInDim S768 ![] bcast_S_S768 main_cst_10
  let main_v27 : IVec S768 1 := cmpf .olt main_v25 main_v26
  let main_c_11 : IVec S_ 1 := constantI S_ 1 1#1
  let main_v28 : IVec S_ 1 := (fun x v => Host.reduce IntOp.andi x v reducesTo_S768_S_d0 h_S_) main_v27 main_c_11
  let main_v29 : IVec S_ 1 := andi main_v24 main_v28
  let main_v30 : FVec F S4096x768 .f32 := (extractStridedSlice S4096x768 ![0, 0] · slices_S8192x768_S4096x768_0_0) main_arg5
  let main_v31 : FVec F S4096x768 .f32 := Host.absf main_v30
  let main_cst_12 : FVec F S_ .f32 := constant S_ .f32 0x7F800000#32
  let main_v32 : FVec F S4096x768 .f32 := broadcastInDim S4096x768 ![] bcast_S_S4096x768 main_cst_12
  fn_part2 (F := F) main_arg6 main_arg7 main_v29 main_v31 main_v32

def fn {F : FTy → Type} [FloatOps F] (main_arg0 : FVec F S4x4096x64 .f32) (main_arg1 : IVec S4x4096 32) (main_arg2 : IVec S4x4096 32) (main_arg3 : FVec F S768x64 .f32) (main_arg4 : FVec F S768 .f32) (main_arg5 : FVec F S8192x768 .f32) (main_arg6 : FVec F S3x768 .f32) (main_arg7 : FVec F S257x768 .f32) (main_arg8 : FVec F S768 .f32) (main_arg9 : FVec F S768 .f32) : IVec S_ 1 :=
  let main_c : IVec S_ 32 := constantI S_ 32 0#32
  let main_v0 : IVec S4x4096 32 := broadcastInDim S4x4096 ![] bcast_S_S4x4096 main_c
  let main_v1 : IVec S4x4096 1 := cmpi .sge main_arg1 main_v0
  let main_c_0 : IVec S_ 1 := constantI S_ 1 1#1
  let main_v2 : IVec S_ 1 := (fun x v => Host.reduce IntOp.andi x v reducesTo_S4x4096_S_d0_1 h_S_) main_v1 main_c_0
  let main_c_1 : IVec S_ 32 := constantI S_ 32 1#32
  let main_v3 : IVec S4x4096 32 := broadcastInDim S4x4096 ![] bcast_S_S4x4096 main_c_1
  let main_v4 : IVec S4x4096 1 := cmpi .sle main_arg1 main_v3
  let main_c_2 : IVec S_ 1 := constantI S_ 1 1#1
  let main_v5 : IVec S_ 1 := (fun x v => Host.reduce IntOp.andi x v reducesTo_S4x4096_S_d0_1 h_S_) main_v4 main_c_2
  let main_v6 : IVec S_ 1 := andi main_v2 main_v5
  let main_cst : FVec F S_ .f32 := constant S_ .f32 0x3F800000#32
  let main_v7 : FVec F S768 .f32 := broadcastInDim S768 ![] bcast_S_S768 main_cst
  let main_v8 : IVec S768 1 := cmpf .oeq main_arg8 main_v7
  let main_c_3 : IVec S_ 1 := constantI S_ 1 1#1
  let main_v9 : IVec S_ 1 := (fun x v => Host.reduce IntOp.andi x v reducesTo_S768_S_d0 h_S_) main_v8 main_c_3
  let main_v10 : IVec S_ 1 := andi main_v6 main_v9
  let main_cst_4 : FVec F S_ .f32 := constant S_ .f32 0x00000000#32
  let main_v11 : FVec F S768 .f32 := broadcastInDim S768 ![] bcast_S_S768 main_cst_4
  let main_v12 : IVec S768 1 := cmpf .oeq main_arg9 main_v11
  let main_c_5 : IVec S_ 1 := constantI S_ 1 1#1
  let main_v13 : IVec S_ 1 := (fun x v => Host.reduce IntOp.andi x v reducesTo_S768_S_d0 h_S_) main_v12 main_c_5
  let main_v14 : IVec S_ 1 := andi main_v10 main_v13
  let main_v15 : FVec F S4x4096x64 .f32 := Host.absf main_arg0
  fn_part1 (F := F) main_arg3 main_arg4 main_arg5 main_arg6 main_arg7 main_v14 main_v15
-- ==== Kernel.lean ====
abbrev S4x4096x64 : Shape := ⟨3, ![4, 4096, 64]⟩
abbrev S4x4096 : Shape := ⟨2, ![4, 4096]⟩
abbrev S768x64 : Shape := ⟨2, ![768, 64]⟩
abbrev S768 : Shape := ⟨1, ![768]⟩
abbrev S8192x768 : Shape := ⟨2, ![8192, 768]⟩
abbrev S3x768 : Shape := ⟨2, ![3, 768]⟩
abbrev S257x768 : Shape := ⟨2, ![257, 768]⟩
abbrev S64x768 : Shape := ⟨2, ![64, 768]⟩
abbrev S4x1x4096 : Shape := ⟨3, ![4, 1, 4096]⟩
abbrev S1x768 : Shape := ⟨2, ![1, 768]⟩
abbrev S4x4096x768 : Shape := ⟨3, ![4, 4096, 768]⟩
abbrev S1x4096x64 : Shape := ⟨3, ![1, 4096, 64]⟩
abbrev S1x1x4096 : Shape := ⟨3, ![1, 1, 4096]⟩
abbrev S4096x768 : Shape := ⟨2, ![4096, 768]⟩
abbrev S1x4096x768 : Shape := ⟨3, ![1, 4096, 768]⟩
abbrev S66x768 : Shape := ⟨2, ![66, 768]⟩
abbrev S4096 : Shape := ⟨1, ![4096]⟩
abbrev S4096x1 : Shape := ⟨2, ![4096, 1]⟩
abbrev S4096x64 : Shape := ⟨2, ![4096, 64]⟩
abbrev S4096x66 : Shape := ⟨2, ![4096, 66]⟩

abbrev nBuf : Space → Nat
  | .hbm => 15
  | .vmem => 11
  | .smem => 0
  | _ => 0

abbrev bufTy : (tb : Table) → Fin (tcTables nBuf tb) → BufTy
  | .hbm, ⟨0, _⟩ => ⟨S4x4096x64, .f32⟩
  | .hbm, ⟨1, _⟩ => ⟨S4x4096, .i32⟩
  | .hbm, ⟨2, _⟩ => ⟨S4x4096, .i32⟩
  | .hbm, ⟨3, _⟩ => ⟨S768x64, .f32⟩
  | .hbm, ⟨4, _⟩ => ⟨S768, .f32⟩
  | .hbm, ⟨5, _⟩ => ⟨S8192x768, .f32⟩
  | .hbm, ⟨6, _⟩ => ⟨S3x768, .f32⟩
  | .hbm, ⟨7, _⟩ => ⟨S257x768, .f32⟩
  | .hbm, ⟨8, _⟩ => ⟨S768, .f32⟩
  | .hbm, ⟨9, _⟩ => ⟨S768, .f32⟩
  | .hbm, ⟨10, _⟩ => ⟨S64x768, .f32⟩
  | .hbm, ⟨11, _⟩ => ⟨S4x1x4096, .i32⟩
  | .hbm, ⟨12, _⟩ => ⟨S1x768, .f32⟩
  | .hbm, ⟨13, _⟩ => ⟨S1x768, .f32⟩
  | .hbm, ⟨14, _⟩ => ⟨S4x4096x768, .f32⟩
  | .local _ .vmem, ⟨0, _⟩ => ⟨S1x4096x64, .f32⟩
  | .local _ .vmem, ⟨1, _⟩ => ⟨S1x4096x64, .f32⟩
  | .local _ .vmem, ⟨2, _⟩ => ⟨S1x1x4096, .i32⟩
  | .local _ .vmem, ⟨3, _⟩ => ⟨S1x1x4096, .i32⟩
  | .local _ .vmem, ⟨4, _⟩ => ⟨S64x768, .f32⟩
  | .local _ .vmem, ⟨5, _⟩ => ⟨S1x768, .f32⟩
  | .local _ .vmem, ⟨6, _⟩ => ⟨S3x768, .f32⟩
  | .local _ .vmem, ⟨7, _⟩ => ⟨S1x768, .f32⟩
  | .local _ .vmem, ⟨8, _⟩ => ⟨S4096x768, .f32⟩
  | .local _ .vmem, ⟨9, _⟩ => ⟨S1x4096x768, .f32⟩
  | .local _ .vmem, ⟨10, _⟩ => ⟨S1x4096x768, .f32⟩
  | _, _ => ⟨S4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let v1 : BitVec 32 := Scalar.addi v0 arg0
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4096x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S1x4096x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "inv_dh" => some ((768⁻¹ : ℝ) : EReal)
  | _ => none
-- ==== ReferenceIdeal.lean ====
abbrev S4x4096x64 : Shape := ⟨3, ![4, 4096, 64]⟩
abbrev S4x4096 : Shape := ⟨2, ![4, 4096]⟩
abbrev S768x64 : Shape := ⟨2, ![768, 64]⟩
abbrev S768 : Shape := ⟨1, ![768]⟩
abbrev S8192x768 : Shape := ⟨2, ![8192, 768]⟩
abbrev S3x768 : Shape := ⟨2, ![3, 768]⟩
abbrev S257x768 : Shape := ⟨2, ![257, 768]⟩
abbrev S64x768 : Shape := ⟨2, ![64, 768]⟩
abbrev S4x4096x768 : Shape := ⟨3, ![4, 4096, 768]⟩
abbrev S1x1x768 : Shape := ⟨3, ![1, 1, 768]⟩
abbrev S_ : Shape := ⟨0, ![]⟩
abbrev S4x4096x1 : Shape := ⟨3, ![4, 4096, 1]⟩
abbrev S1 : Shape := ⟨1, ![1]⟩
abbrev S1x1x1 : Shape := ⟨3, ![1, 1, 1]⟩
abbrev S4096 : Shape := ⟨1, ![4096]⟩
abbrev S4096x1 : Shape := ⟨2, ![4096, 1]⟩
abbrev S1x1 : Shape := ⟨2, ![1, 1]⟩
abbrev S4096x768 : Shape := ⟨2, ![4096, 768]⟩
abbrev S1x4096x768 : Shape := ⟨3, ![1, 4096, 768]⟩

abbrev nBuf : Space → Nat
  | .hbm => 148
  | .vmem => 0
  | .smem => 0
  | _ => 0

abbrev hbmTy0_0 (i : Nat) : BufTy := match i % 128 with
  | 0 => ⟨S4x4096x64, .f32⟩
  | 1 => ⟨S4x4096, .i32⟩
  | 2 => ⟨S4x4096, .i32⟩
  | 3 => ⟨S768x64, .f32⟩
  | 4 => ⟨S768, .f32⟩
  | 5 => ⟨S8192x768, .f32⟩
  | 6 => ⟨S3x768, .f32⟩
  | 7 => ⟨S257x768, .f32⟩
  | 8 => ⟨S768, .f32⟩
  | 9 => ⟨S768, .f32⟩
  | 10 => ⟨S64x768, .f32⟩
  | 11 => ⟨S4x4096x768, .f32⟩
  | 12 => ⟨S1x1x768, .f32⟩
  | 13 => ⟨S4x4096x768, .f32⟩
  | 14 => ⟨S4x4096x768, .f32⟩
  | 15 => ⟨S_, .i32⟩
  | 16 => ⟨S4x4096, .i32⟩
  | 17 => ⟨S4x4096, .i32⟩
  | 18 => ⟨S_, .i32⟩
  | 19 => ⟨S4x4096, .i32⟩
  | 20 => ⟨S4x4096, .i1⟩
  | 21 => ⟨S_, .i32⟩
  | 22 => ⟨S4x4096, .i32⟩
  | 23 => ⟨S4x4096, .i32⟩
  | 24 => ⟨S4x4096, .i32⟩
  | 25 => ⟨S4x4096x1, .i32⟩
  | 26 => ⟨S1, .i32⟩
  | 27 => ⟨S_, .i32⟩
  | 28 => ⟨S4x4096x1, .i32⟩
  | 29 => ⟨S4x4096x1, .i1⟩
  | 30 => ⟨S1x1x1, .i32⟩
  | 31 => ⟨S4x4096x1, .i32⟩
  | 32 => ⟨S4x4096x1, .i1⟩
  | 33 => ⟨S4x4096x1, .i1⟩
  | 34 => ⟨S_, .i1⟩
  | 35 => ⟨S4x4096, .i1⟩
  | 36 => ⟨S4x4096x768, .f32⟩
  | 37 => ⟨S4x4096x768, .i1⟩
  | 38 => ⟨S_, .f32⟩
  | 39 => ⟨S4x4096x768, .f32⟩
  | 40 => ⟨S4x4096x768, .f32⟩
  | 41 => ⟨S_, .i32⟩
  | 42 => ⟨S_, .i32⟩
  | 43 => ⟨S_, .i32⟩
  | 44 => ⟨S4x4096, .i32⟩
  | 45 => ⟨S4x4096, .i32⟩
  | 46 => ⟨S_, .i32⟩
  | 47 => ⟨S4x4096, .i32⟩
  | 48 => ⟨S4x4096, .i32⟩
  | 49 => ⟨S_, .i32⟩
  | 50 => ⟨S_, .i32⟩
  | 51 => ⟨S4x4096, .i32⟩
  | 52 => ⟨S4x4096, .i32⟩
  | 53 => ⟨S4x4096, .i32⟩
  | 54 => ⟨S_, .i32⟩
  | 55 => ⟨S4x4096, .i32⟩
  | 56 => ⟨S4x4096, .i1⟩
  | 57 => ⟨S4x4096, .i32⟩
  | 58 => ⟨S4x4096, .i32⟩
  | 59 => ⟨S_, .i32⟩
  | 60 => ⟨S4x4096, .i32⟩
  | 61 => ⟨S4x4096, .i1⟩
  | 62 => ⟨S4x4096, .i1⟩
  | 63 => ⟨S_, .i32⟩
  | 64 => ⟨S4x4096, .i32⟩
  | 65 => ⟨S4x4096, .i32⟩
  | 66 => ⟨S4x4096, .i32⟩
  | 67 => ⟨S_, .i32⟩
  | 68 => ⟨S4x4096, .i32⟩
  | 69 => ⟨S4x4096, .i1⟩
  | 70 => ⟨S_, .i32⟩
  | 71 => ⟨S4x4096, .i32⟩
  | 72 => ⟨S4x4096, .i32⟩
  | 73 => ⟨S4x4096, .i32⟩
  | 74 => ⟨S4x4096x1, .i32⟩
  | 75 => ⟨S1, .i32⟩
  | 76 => ⟨S_, .i32⟩
  | 77 => ⟨S4x4096x1, .i32⟩
  | 78 => ⟨S4x4096x1, .i1⟩
  | 79 => ⟨S1x1x1, .i32⟩
  | 80 => ⟨S4x4096x1, .i32⟩
  | 81 => ⟨S4x4096x1, .i1⟩
  | 82 => ⟨S4x4096x1, .i1⟩
  | 83 => ⟨S_, .i1⟩
  | 84 => ⟨S4x4096, .i1⟩
  | 85 => ⟨S4x4096x768, .f32⟩
  | 86 => ⟨S4x4096x768, .i1⟩
  | 87 => ⟨S_, .f32⟩
  | 88 => ⟨S4x4096x768, .f32⟩
  | 89 => ⟨S4x4096x768, .f32⟩
  | 90 => ⟨S4x4096x768, .f32⟩
  | 91 => ⟨S4x4096x768, .f32⟩
  | 92 => ⟨S4096, .i32⟩
  | 93 => ⟨S_, .i32⟩
  | 94 => ⟨S4096, .i32⟩
  | 95 => ⟨S4096, .i1⟩
  | 96 => ⟨S_, .i32⟩
  | 97 => ⟨S4096, .i32⟩
  | 98 => ⟨S4096, .i32⟩
  | 99 => ⟨S4096, .i32⟩
  | 100 => ⟨S4096x1, .i32⟩
  | 101 => ⟨S1, .i32⟩
  | 102 => ⟨S_, .i32⟩
  | 103 => ⟨S4096x1, .i32⟩
  | 104 => ⟨S4096x1, .i1⟩
  | 105 => ⟨S1x1, .i32⟩
  | 106 => ⟨S4096x1, .i32⟩
  | 107 => ⟨S4096x1, .i1⟩
  | 108 => ⟨S4096x1, .i1⟩
  | 109 => ⟨S_, .i1⟩
  | 110 => ⟨S4096, .i1⟩
  | 111 => ⟨S4096x768, .f32⟩
  | 112 => ⟨S4096x768, .i1⟩
  | 113 => ⟨S_, .f32⟩
  | 114 => ⟨S4096x768, .f32⟩
  | 115 => ⟨S4096x768, .f32⟩
  | 116 => ⟨S1x4096x768, .f32⟩
  | 117 => ⟨S4x4096x768, .f32⟩
  | 118 => ⟨S4x4096x768, .f32⟩
  | 119 => ⟨S_, .f32⟩
  | 120 => ⟨S4x4096, .f32⟩
  | 121 => ⟨S4x4096x1, .f32⟩
  | 122 => ⟨S_, .f32⟩
  | 123 => ⟨S4x4096x1, .f32⟩
  | 124 => ⟨S4x4096x1, .f32⟩
  | 125 => ⟨S4x4096x768, .f32⟩
  | 126 => ⟨S4x4096x768, .f32⟩
  | 127 => ⟨S4x4096x768, .f32⟩
  | _ => ⟨S4x4096x64, .f32⟩

abbrev hbmTy0_1 (i : Nat) : BufTy := match i % 128 with
  | 0 => ⟨S_, .f32⟩
  | 1 => ⟨S4x4096, .f32⟩
  | 2 => ⟨S4x4096x1, .f32⟩
  | 3 => ⟨S_, .f32⟩
  | 4 => ⟨S4x4096x1, .f32⟩
  | 5 => ⟨S4x4096x1, .f32⟩
  | 6 => ⟨S4x4096x768, .f32⟩
  | 7 => ⟨S4x4096x768, .f32⟩
  | 8 => ⟨S_, .f32⟩
  | 9 => ⟨S4x4096x1, .f32⟩
  | 10 => ⟨S4x4096x1, .f32⟩
  | 11 => ⟨S4x4096x1, .f32⟩
  | 12 => ⟨S4x4096x768, .f32⟩
  | 13 => ⟨S4x4096x768, .f32⟩
  | 14 => ⟨S1x1x768, .f32⟩
  | 15 => ⟨S4x4096x768, .f32⟩
  | 16 => ⟨S4x4096x768, .f32⟩
  | 17 => ⟨S1x1x768, .f32⟩
  | 18 => ⟨S4x4096x768, .f32⟩
  | 19 => ⟨S4x4096x768, .f32⟩
  | _ => ⟨S4x4096x64, .f32⟩

abbrev hbmTy (i : Nat) : BufTy := match i / 128 with
  | 0 => hbmTy0_0 i
  | 1 => hbmTy0_1 i
  | _ => ⟨S4x4096x64, .f32⟩

abbrev bufTy : (tb : Table) → Fin (tcTables nBuf tb) → BufTy
  | .hbm, ⟨i, _⟩ => hbmTy i
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v7 : Ref sig .tc := ⟨.hbm, 40, rfl⟩
abbrev main_c_0 : Ref sig .tc := ⟨.hbm, 41, rfl⟩
abbrev main_c_1 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_v8 : Ref sig .tc := ⟨.hbm, 48, rfl⟩
abbrev main_c_2 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_v6 : Ref sig .tc := ⟨.hbm, 56, rfl⟩
abbrev main_call2_v7 : Ref sig .tc := ⟨.hbm, 57, rfl⟩
abbrev main_call2_v8 : Ref sig .tc := ⟨.hbm, 58, rfl⟩
abbrev main_call2_c : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_c_0 : Ref sig .tc := ⟨.hbm, 63, rfl⟩
abbrev main_call2_v12 : Ref sig .tc := ⟨.hbm, 64, rfl⟩
abbrev main_call2_v13 : Ref sig .tc := ⟨.hbm, 65, rfl⟩
abbrev main_v9 : Ref sig .tc := ⟨.hbm, 66, rfl⟩
abbrev main_call3_c : Ref sig .tc := ⟨.hbm, 67, rfl⟩
abbrev main_call3_v0 : Ref sig .tc := ⟨.hbm, 68, rfl⟩
abbrev main_call3_v1 : Ref sig .tc := ⟨.hbm, 69, rfl⟩
abbrev main_call3_c_0 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_v5 : Ref sig .tc := ⟨.hbm, 74, rfl⟩
abbrev main_call3_c_1 : Ref sig .tc := ⟨.hbm, 75, rfl⟩
abbrev main_call3_c_2 : Ref sig .tc := ⟨.hbm, 76, rfl⟩
abbrev main_call3_v6 : Ref sig .tc := ⟨.hbm, 77, rfl⟩
abbrev main_call3_v7 : Ref sig .tc := ⟨.hbm, 78, rfl⟩
abbrev main_call3_v8 : Ref sig .tc := ⟨.hbm, 79, rfl⟩
abbrev main_call3_v9 : Ref sig .tc := ⟨.hbm, 80, rfl⟩
abbrev main_call3_v10 : Ref sig .tc := ⟨.hbm, 81, rfl⟩
abbrev main_call3_v11 : Ref sig .tc := ⟨.hbm, 82, rfl⟩
abbrev main_call3_c_3 : Ref sig .tc := ⟨.hbm, 83, rfl⟩
abbrev main_call3_v12 : Ref sig .tc := ⟨.hbm, 84, rfl⟩
abbrev main_call3_v13 : Ref sig .tc := ⟨.hbm, 85, rfl⟩
abbrev main_call3_v14 : Ref sig .tc := ⟨.hbm, 86, rfl⟩
abbrev main_call3_cst : Ref sig .tc := ⟨.hbm, 87, rfl⟩
abbrev main_call3_v15 : Ref sig .tc := ⟨.hbm, 88, rfl⟩
abbrev main_v10 : Ref sig .tc := ⟨.hbm, 89, rfl⟩
abbrev main_v11 : Ref sig .tc := ⟨.hbm, 90, rfl⟩
abbrev main_v12 : Ref sig .tc := ⟨.hbm, 91, rfl⟩
abbrev main_v13 : Ref sig .tc := ⟨.hbm, 92, rfl⟩
abbrev main_call4_c : Ref sig .tc := ⟨.hbm, 93, rfl⟩
abbrev main_call4_v0 : Ref sig .tc := ⟨.hbm, 94, rfl⟩
abbrev main_call4_v1 : Ref sig .tc := ⟨.hbm, 95, rfl⟩
abbrev main_call4_c_0 : Ref sig .tc := ⟨.hbm, 96, rfl⟩
abbrev main_call4_v2 : Ref sig .tc := ⟨.hbm, 97, rfl⟩
abbrev main_call4_v3 : Ref sig .tc := ⟨.hbm, 98, rfl⟩
abbrev main_call4_v4 : Ref sig .tc := ⟨.hbm, 99, rfl⟩
abbrev main_call4_v5 : Ref sig .tc := ⟨.hbm, 100, rfl⟩
abbrev main_call4_c_1 : Ref sig .tc := ⟨.hbm, 101, rfl⟩
abbrev main_call4_c_2 : Ref sig .tc := ⟨.hbm, 102, rfl⟩
abbrev main_call4_v6 : Ref sig .tc := ⟨.hbm, 103, rfl⟩
abbrev main_call4_v7 : Ref sig .tc := ⟨.hbm, 104, rfl⟩
abbrev main_call4_v8 : Ref sig .tc := ⟨.hbm, 105, rfl⟩
abbrev main_call4_v9 : Ref sig .tc := ⟨.hbm, 106, rfl⟩
abbrev main_call4_v10 : Ref sig .tc := ⟨.hbm, 107, rfl⟩
abbrev main_call4_v11 : Ref sig .tc := ⟨.hbm, 108, rfl⟩
abbrev main_call4_c_3 : Ref sig .tc := ⟨.hbm, 109, rfl⟩
abbrev main_call4_v12 : Ref sig .tc := ⟨.hbm, 110, rfl⟩
abbrev main_call4_v13 : Ref sig .tc := ⟨.hbm, 111, rfl⟩
abbrev main_call4_v14 : Ref sig .tc := ⟨.hbm, 112, rfl⟩
abbrev main_call4_cst : Ref sig .tc := ⟨.hbm, 113, rfl⟩
abbrev main_call4_v15 : Ref sig .tc := ⟨.hbm, 114, rfl⟩
abbrev main_v14 : Ref sig .tc := ⟨.hbm, 115, rfl⟩
abbrev main_v15 : Ref sig .tc := ⟨.hbm, 116, rfl⟩
abbrev main_v16 : Ref sig .tc := ⟨.hbm, 117, rfl⟩
abbrev main_v17 : Ref sig .tc := ⟨.hbm, 118, rfl⟩
abbrev main_cst : Ref sig .tc := ⟨.hbm, 119, rfl⟩
abbrev main_v18 : Ref sig .tc := ⟨.hbm, 120, rfl⟩
abbrev main_v19 : Ref sig .tc := ⟨.hbm, 121, rfl⟩
abbrev main_cst_3 : Ref sig .tc := ⟨.hbm, 122, rfl⟩
abbrev main_v20 : Ref sig .tc := ⟨.hbm, 123, rfl⟩
abbrev main_v21 : Ref sig .tc := ⟨.hbm, 124, rfl⟩
abbrev main_v22 : Ref sig .tc := ⟨.hbm, 125, rfl⟩
abbrev main_v23 : Ref sig .tc := ⟨.hbm, 126, rfl⟩
abbrev main_v24 : Ref sig .tc := ⟨.hbm, 127, rfl⟩
abbrev main_cst_4 : Ref sig .tc := ⟨.hbm, 128, rfl⟩
abbrev main_v25 : Ref sig .tc := ⟨.hbm, 129, rfl⟩
abbrev main_v26 : Ref sig .tc := ⟨.hbm, 130, rfl⟩
abbrev main_cst_5 : Ref sig .tc := ⟨.hbm, 131, rfl⟩
abbrev main_v27 : Ref sig .tc := ⟨.hbm, 132, rfl⟩
abbrev main_v28 : Ref sig .tc := ⟨.hbm, 133, rfl⟩
abbrev main_v29 : Ref sig .tc := ⟨.hbm, 134, rfl⟩
abbrev main_v30 : Ref sig .tc := ⟨.hbm, 135, rfl⟩
abbrev main_cst_6 : Ref sig .tc := ⟨.hbm, 136, rfl⟩
abbrev main_v31 : Ref sig .tc := ⟨.hbm, 137, rfl⟩
abbrev main_v32 : Ref sig .tc := ⟨.hbm, 138, rfl⟩
abbrev main_v33 : Ref sig .tc := ⟨.hbm, 139, rfl⟩
abbrev main_v34 : Ref sig .tc := ⟨.hbm, 140, rfl⟩
abbrev main_v35 : Ref sig .tc := ⟨.hbm, 141, rfl⟩
abbrev main_v36 : Ref sig .tc := ⟨.hbm, 142, rfl⟩
abbrev main_v37 : Ref sig .tc := ⟨.hbm, 143, rfl⟩
abbrev main_v38 : Ref sig .tc := ⟨.hbm, 144, rfl⟩
abbrev main_v39 : Ref sig .tc := ⟨.hbm, 145, rfl⟩
abbrev main_v40 : Ref sig .tc := ⟨.hbm, 146, rfl⟩
abbrev main_v41 : Ref sig .tc := ⟨.hbm, 147, rfl⟩

abbrev nD : Nat := 1
abbrev τ : Topo := Topo.v7x

variable {F : FTy → Type} [FloatOps F]
-- ==== Proof.LayerNorm.lean ====
/- The layer normalization of one row, on reals: the kernel's form (mean of squares minus square of the mean, product with the
   reciprocal root, the mean folded into a summand) is the reference's form (mean of the squared deviations, division by the
   root). Hand-written, untrusted. -/
module

public import Idealize.ShloMosaic.PureOps.Ideal
public import Idealize.ShloMosaic.Lib.IdealHost

@[expose] public section

noncomputable section

namespace Cert.Row

open Idealize.ShloMosaic

/-- The pattern of the divisor denotes the real 768. -/
theorem pattern_768 : Ideal.ofBits .f32 0x44400000#32 = ((768 : ℝ) : EReal) := by
  simp [Ideal.ofBits, Ideal.ieee, -EReal.coe_mul]; norm_num

/-- The small number added to the variance: what its pattern denotes. -/
def eps : ℝ := 9223372 * (2 : ℝ) ^ (-63 : ℤ)

/-- The pattern of the small number denotes the real `eps`. -/
theorem pattern_eps : Ideal.ofBits .f32 0x2B8CBCCC#32 = ((eps : ℝ) : EReal) := by
  simp [Ideal.ofBits, Ideal.ieee, eps, -EReal.coe_mul]

/-- The small number is positive. -/
theorem eps_pos : 0 < eps := by unfold eps; positivity

/-- A sum of reals read in the extended reals is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The mean of a row of 768 reals. -/
def mean (e : Fin 768 → ℝ) : ℝ := (∑ i, e i) * 768⁻¹

/-- The mean of the squared deviations of a row. -/
def var (e : Fin 768 → ℝ) : ℝ := (∑ i, (e i - mean e) * (e i - mean e)) * 768⁻¹

/-- The variance is not negative. -/
theorem var_nonneg (e : Fin 768 → ℝ) : 0 ≤ var e :=
  mul_nonneg (Finset.sum_nonneg fun i _ => mul_self_nonneg _) (by norm_num)

/-- The mean of the squares minus the square of the mean is the variance. -/
theorem var_eq (e : Fin 768 → ℝ) : (∑ i, e i * e i) * 768⁻¹ - mean e * mean e = var e := by
  have h : ∑ i, (e i - mean e) * (e i - mean e) = ∑ i, e i * e i - 2 * mean e * ∑ i, e i + 768 * (mean e * mean e) := by
    have h1 : ∀ i, (e i - mean e) * (e i - mean e) = e i * e i - 2 * mean e * e i + mean e * mean e := fun i => by ring
    simp only [h1, Finset.sum_add_distrib, Finset.sum_sub_distrib, ← Finset.mul_sum, Finset.sum_const, Finset.card_univ,
      Fintype.card_fin, nsmul_eq_mul]
    push_cast
    ring
  have h2 : ∑ i, e i = 768 * mean e := by unfold mean; ring
  unfold var
  rw [h, h2]
  ring

/-- The normalized entry of a row: the value both programs compute. -/
def norm (e : Fin 768 → ℝ) (j : Fin 768) : ℝ := (e j - mean e) * (Real.sqrt (var e + eps))⁻¹

/-- The mean folded into a summand: `a v + (0 - m v)` is `(a - m) v` on reals. -/
theorem fold_mean (a m v : ℝ) :
    ((a : ℝ) : EReal) * ((v : ℝ) : EReal) + (0 - ((m : ℝ) : EReal) * ((v : ℝ) : EReal)) = (((a - m) * v : ℝ) : EReal) := by
  rw [zero_sub, ← EReal.coe_mul, ← EReal.coe_mul, ← EReal.coe_neg, ← EReal.coe_add]
  congr 1
  ring

/-- The kernel's arithmetic on a row of reals gives the normalized entry. -/
theorem kernel_form (e : Fin 768 → ℝ) (j : Fin 768) (κ z ε : EReal) (hκ : κ = ((768⁻¹ : ℝ) : EReal)) (hz : z = 0)
    (hε : ε = ((eps : ℝ) : EReal)) :
    ((e j : ℝ) : EReal) * Ideal.rsqrt ((∑ i, ((e i : ℝ) : EReal) * ((e i : ℝ) : EReal)) * κ
        - ((∑ i, ((e i : ℝ) : EReal)) * κ) * ((∑ i, ((e i : ℝ) : EReal)) * κ) + ε)
      + (z - ((∑ i, ((e i : ℝ) : EReal)) * κ) * Ideal.rsqrt ((∑ i, ((e i : ℝ) : EReal) * ((e i : ℝ) : EReal)) * κ
        - ((∑ i, ((e i : ℝ) : EReal)) * κ) * ((∑ i, ((e i : ℝ) : EReal)) * κ) + ε))
    = ((norm e j : ℝ) : EReal) := by
  subst hκ hz hε
  have hpos : 0 < var e + eps := add_pos_of_nonneg_of_pos (var_nonneg e) eps_pos
  have hm : (∑ i, e i) * 768⁻¹ = mean e := rfl
  have hr : Ideal.rsqrt ((∑ i, ((e i : ℝ) : EReal) * ((e i : ℝ) : EReal)) * ((768⁻¹ : ℝ) : EReal)
        - ((∑ i, ((e i : ℝ) : EReal)) * ((768⁻¹ : ℝ) : EReal)) * ((∑ i, ((e i : ℝ) : EReal)) * ((768⁻¹ : ℝ) : EReal)) + ((eps : ℝ) : EReal))
      = (((Real.sqrt (var e + eps))⁻¹ : ℝ) : EReal) := by
    simp only [← EReal.coe_mul, coe_sum, hm, ← EReal.coe_sub, ← EReal.coe_add, var_eq]
    show (if var e + eps < 0 then (⊥ : EReal) else if var e + eps = 0 then ⊤ else (((Real.sqrt (var e + eps))⁻¹ : ℝ) : EReal)) = _
    rw [if_neg hpos.le.not_gt, if_neg hpos.ne']
  have hM : (∑ i, ((e i : ℝ) : EReal)) * ((768⁻¹ : ℝ) : EReal) = ((mean e : ℝ) : EReal) := by
    rw [coe_sum, ← EReal.coe_mul, hm]
  rw [hr, hM]
  exact fold_mean _ _ _

/-- A quotient of reals by a real that is not zero. -/
theorem div_real (a b : ℝ) (hb : b ≠ 0) : Ideal.div ((a : ℝ) : EReal) ((b : ℝ) : EReal) = ((a * b⁻¹ : ℝ) : EReal) := by
  unfold Ideal.div
  rw [if_neg (by exact_mod_cast hb), ← EReal.coe_inv, ← EReal.coe_mul]

/-- The reference's arithmetic on a row of reals gives the normalized entry. -/
theorem reference_form (e : Fin 768 → ℝ) (j : Fin 768) (d ε g b : EReal) (hd : d = ((768 : ℝ) : EReal))
    (hε : ε = ((eps : ℝ) : EReal)) (hg : g = 1) (hb : b = 0) :
    Ideal.div (((e j : ℝ) : EReal) - Ideal.div (∑ i, ((e i : ℝ) : EReal)) d)
        (Ideal.sqrt (Ideal.div (∑ i, (((e i : ℝ) : EReal) - Ideal.div (∑ i, ((e i : ℝ) : EReal)) d)
          * (((e i : ℝ) : EReal) - Ideal.div (∑ i, ((e i : ℝ) : EReal)) d)) d + ε)) * g + b
    = ((norm e j : ℝ) : EReal) := by
  subst hd hε hg hb
  have hpos : 0 < var e + eps := add_pos_of_nonneg_of_pos (var_nonneg e) eps_pos
  have hm : Ideal.div (∑ i, ((e i : ℝ) : EReal)) ((768 : ℝ) : EReal) = ((mean e : ℝ) : EReal) := by
    rw [coe_sum, div_real _ _ (by norm_num)]; rfl
  have hv : Ideal.div (∑ i, (((e i : ℝ) : EReal) - ((mean e : ℝ) : EReal)) * (((e i : ℝ) : EReal) - ((mean e : ℝ) : EReal)))
      ((768 : ℝ) : EReal) = ((var e : ℝ) : EReal) := by
    simp only [← EReal.coe_sub, ← EReal.coe_mul, coe_sum]
    rw [div_real _ _ (by norm_num)]; rfl
  have hs : Ideal.sqrt (((var e + eps : ℝ)) : EReal) = ((Real.sqrt (var e + eps) : ℝ) : EReal) := by
    show (if var e + eps < 0 then (⊥ : EReal) else ((Real.sqrt (var e + eps) : ℝ) : EReal)) = _
    rw [if_neg hpos.le.not_gt]
  rw [hm, hv, ← EReal.coe_add, hs, ← EReal.coe_sub, div_real _ _ (Real.sqrt_pos.mpr hpos).ne', mul_one, add_zero]
  rfl

end Cert.Row

end
-- ==== Proof.Arrays.lean ====
/- The arguments as real arrays: the embedding of a row, its normalization, and what it means that the programs' argument
   arrays hold them. Hand-written, untrusted. -/
module

public import proofs.«01_k».proof.Proof.LayerNorm
public import Idealize.ShloMosaic.Lib.Pointwise

@[expose] public section

set_option maxRecDepth 16384

noncomputable section

namespace Cert.Row

open Idealize.ShloMosaic

/-- The arguments that both programs read, as reals (and the strands as 0 or 1). -/
structure Arrays where
  /-- the gene representations -/
  x : Fin 4 → Fin 4096 → Fin 64 → ℝ
  /-- the strands -/
  t : Fin 4 → Fin 4096 → Fin 2
  /-- the weight of the linear map -/
  w : Fin 768 → Fin 64 → ℝ
  /-- its bias -/
  b : Fin 768 → ℝ
  /-- the position table's rows -/
  p : Fin 4096 → Fin 768 → ℝ
  /-- the direction table's rows 1 and 2 -/
  d : Fin 2 → Fin 768 → ℝ
  /-- the length table's row 0 -/
  l : Fin 768 → ℝ

/-- The sum of embeddings at an index. -/
def Arrays.emb (A : Arrays) (b : Fin 4) (s : Fin 4096) (j : Fin 768) : ℝ :=
  ∑ k, A.x b s k * A.w j k + A.b j + A.d (A.t b s) j + A.l j + A.p s j

/-- The result at an index: the normalized sum of embeddings. -/
def Arrays.out (A : Arrays) (b : Fin 4) (s : Fin 4096) (j : Fin 768) : ℝ := norm (A.emb b s) j

/-- The result as an array of extended reals. -/
def Arrays.array (A : Arrays) : FVec Ideal ⟨3, ![4, 4096, 768]⟩ .f32 :=
  fun i => ((A.out (i 0) (i 1) (i 2) : ℝ) : EReal)

/-- The argument arrays hold the real arrays; the scale is 1 and the shift 0. -/
structure Reads (A : Arrays) (x : FVec Ideal ⟨3, ![4, 4096, 64]⟩ .f32) (t : IVec ⟨2, ![4, 4096]⟩ 32)
    (w : FVec Ideal ⟨2, ![768, 64]⟩ .f32) (b : FVec Ideal ⟨1, ![768]⟩ .f32) (p : FVec Ideal ⟨2, ![8192, 768]⟩ .f32)
    (d : FVec Ideal ⟨2, ![3, 768]⟩ .f32) (l : FVec Ideal ⟨2, ![257, 768]⟩ .f32) (g h : FVec Ideal ⟨1, ![768]⟩ .f32) : Prop where
  reps : ∀ i j k, x (ix3 i j k) = ((A.x i j k : ℝ) : EReal)
  strand : ∀ i j, t (ix2 i j) = BitVec.ofNat 32 (A.t i j).val
  weight : ∀ j k, w (ix2 j k) = ((A.w j k : ℝ) : EReal)
  bias : ∀ j, b (ix1 j) = ((A.b j : ℝ) : EReal)
  pos : ∀ (s : Fin 4096) j, p (ix2 (⟨s.val, by omega⟩ : Fin 8192) j) = ((A.p s j : ℝ) : EReal)
  dir : ∀ (k : Fin 2) j, d (ix2 (⟨k.val + 1, by omega⟩ : Fin 3) j) = ((A.d k j : ℝ) : EReal)
  len : ∀ j, l (ix2 (0 : Fin 257) j) = ((A.l j : ℝ) : EReal)
  scale : ∀ j, g (ix1 j) = 1
  shift : ∀ j, h (ix1 j) = 0

/-- The reference's sum of embeddings, in its order of summands. -/
theorem ref_emb (A : Arrays) (b : Fin 4) (s : Fin 4096) (j : Fin 768) :
    (∑ k, ((A.x b s k : ℝ) : EReal) * ((A.w j k : ℝ) : EReal)) + ((A.b j : ℝ) : EReal) + ((A.d (A.t b s) j : ℝ) : EReal)
      + ((A.l j : ℝ) : EReal) + ((A.p s j : ℝ) : EReal) = ((A.emb b s j : ℝ) : EReal) := by
  simp only [← EReal.coe_mul, coe_sum, ← EReal.coe_add, Arrays.emb]

/-- The kernel's sum of embeddings: the constant column carries the bias, the length row and direction row 1, the strand's
    column the difference of the direction rows. -/
theorem ker_emb (A : Arrays) (b : Fin 4) (s : Fin 4096) (j : Fin 768) (t : ℝ) (ht : t = ((A.t b s).val : ℝ)) :
    ∑ k, A.x b s k * A.w j k + 1 * (A.b j + A.l j + A.d 0 j) + t * (A.d 1 j - A.d 0 j) + A.p s j = A.emb b s j := by
  subst ht
  unfold Arrays.emb
  obtain h | h : A.t b s = 0 ∨ A.t b s = 1 := by
    generalize A.t b s = k
    revert k; decide
  · rw [h]; simp; ring
  · rw [h]; simp; ring

end Cert.Row

end
-- ==== Proof.KernelRow.lean ====
/- The kernel's body read at an index of its block. Hand-written, untrusted. -/
module

public import proofs.«01_k».proof.Proof.Gen.KernelIdeal.Value
public import Idealize.ShloMosaic.Lib.Pipeline.ValueKit
public import Idealize.ShloMosaic.Lib.Tactic.CleanTypes
public import proofs.«01_k».proof.Proof.Arrays

@[expose] public section

set_option maxRecDepth 16384

noncomputable section

namespace Cert.KernelRow

open Idealize.ShloMosaic Idealize.ShloMosaic.TcCoe Idealize.SL.Sem Cert.KernelIdeal Cert.KernelIdeal.Gen

/-- The body's loaded blocks hold the real arrays of batch `b`. -/
structure Block (A : Cert.Row.Arrays) (b : Fin 4) (v0 v2 v5 v9 v11 : FVec Ideal S1x768 .f32) (v15 : FVec Ideal S64x768 .f32)
    (v18 : IVec S1x1x4096 32) (v22 : FVec Ideal S1x4096x64 .f32) (v27 : FVec Ideal S4096x768 .f32) : Prop where
  bias : ∀ j, v0 (ix2 (0 : Fin 1) j) = ((A.b j : ℝ) : EReal)
  len : ∀ j, v2 (ix2 (0 : Fin 1) j) = ((A.l j : ℝ) : EReal)
  base : ∀ j, v5 (ix2 (0 : Fin 1) j) = ((A.d 0 j : ℝ) : EReal)
  top : ∀ j, v9 (ix2 (0 : Fin 1) j) = ((A.d 1 j : ℝ) : EReal)
  low : ∀ j, v11 (ix2 (0 : Fin 1) j) = ((A.d 0 j : ℝ) : EReal)
  weight : ∀ k j, v15 (ix2 k j) = ((A.w j k : ℝ) : EReal)
  strand : ∀ s, v18 (ix3 (0 : Fin 1) (0 : Fin 1) s) = BitVec.ofNat 32 (A.t b s).val
  reps : ∀ s k, v22 (ix3 (0 : Fin 1) s k) = ((A.x b s k : ℝ) : EReal)
  pos : ∀ s j, v27 (ix2 s j) = ((A.p s j : ℝ) : EReal)

/-- A strand converted to a float is the real 0 or 1. -/
theorem strand_float (k : Fin 2) :
    (FloatOps.sitofp (F := Ideal) .f32 (BitVec.ofNat 32 k.val) : EReal) = (((k.val : ℝ)) : EReal) := by
  have h : (BitVec.ofNat 32 k.val).toInt = (k.val : ℤ) := by revert k; decide
  show (((BitVec.ofNat 32 k.val).toInt : ℝ) : EReal) = _
  rw [h, Int.cast_natCast]

/-- The first store at an index: the sum of embeddings. -/
theorem emb_at (A : Cert.Row.Arrays) (b : Fin 4) (v0 v2 v5 v9 v11 : FVec Ideal S1x768 .f32) (v15 : FVec Ideal S64x768 .f32)
    (v18 : IVec S1x1x4096 32) (v22 : FVec Ideal S1x4096x64 .f32) (v27 : FVec Ideal S4096x768 .f32)
    (B : Block A b v0 v2 v5 v9 v11 v15 v18 v22 v27) (s : Fin 4096) (d : Fin 768) :
    (k0_pay2 (F := Ideal) v0 v2 v5 v9 v11 v15 v18 v22 v27 : FVec Ideal S1x4096x768 .f32) (ix3 (0 : Fin 1) s d)
      = ((A.emb b s d : ℝ) : EReal) := by
  unfold k0_pay2
  clean_types
  pointwise
  rw [B.bias, B.len, B.base, B.top, B.low, B.pos, B.strand, strand_float]
  obtain ⟨t, ht⟩ : ∃ t : ℝ, t = ((A.t b s).val : ℝ) := ⟨_, rfl⟩
  rw [← ht, Fin.sum_univ_castSucc, Fin.sum_univ_castSucc]
  have hk : ∀ k : Fin 64, (k.castSucc.castSucc : Fin 66).val = k.val := fun k => rfl
  simp only [hk, Fin.is_lt, dite_true, Fin.eta, B.reps, B.weight]
  have h1 : ((Fin.last 64).castSucc : Fin 66).val = 64 := rfl
  have h2 : (Fin.last 65).val = 65 := rfl
  simp only [h1, h2]
  norm_num
  rw [← Cert.Row.ker_emb A b s d t ht]
  simp only [← EReal.coe_mul, Cert.Row.coe_sum, ← EReal.coe_add, ← EReal.coe_sub, one_mul]

/-- The second store at an index: the row's normalization. -/
theorem norm_at (v : FVec Ideal S1x4096x768 .f32) (s : Fin 4096) (e : Fin 768 → ℝ)
    (hv : ∀ j, v (ix3 (0 : Fin 1) s j) = ((e j : ℝ) : EReal)) (d : Fin 768) :
    (k0_pay1 (F := Ideal) v : FVec Ideal S1x4096x768 .f32) (ix3 (0 : Fin 1) s d) = ((Cert.Row.norm e d : ℝ) : EReal) := by
  unfold k0_pay1
  clean_types
  pointwise
  simp only [hv]
  exact Cert.Row.kernel_form e d _ _ _ (IdealRules.named_const.ideal_named_scalar _ _ _ _ rfl) rfl Cert.Row.pattern_eps

/-- The windows' index maps. -/
theorem idx : ∀ t : Fin cfg0.N, win0_0.index t = ![t.val, 0, 0] ∧ win0_1.index t = ![t.val, 0, 0] ∧ win0_2.index t = ![0, 0]
    ∧ win0_3.index t = ![0, 0] ∧ win0_4.index t = ![0, 0] ∧ win0_5.index t = ![0, 0] ∧ win0_6.index t = ![0, 0]
    ∧ win0_7.index t = ![t.val, 0, 0] :=
  (by decide +kernel : ∀ t : Fin grid0.N, _)

variable (m : (ℓ : Loc nD τ sig) → Buf (Elt Ideal) ℓ)

/-- The kernel's arguments at launch hold the real arrays. -/
abbrev Holds (A : Cert.Row.Arrays) (c : Dev nD) : Prop :=
  Cert.Row.Reads A (m ((c : Thread nD τ).loc main_arg0)) (m ((c : Thread nD τ).loc main_arg1)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))

/-- The grid has four points. -/
theorem lt_four (t : Fin cfg0.N) : t.val < 4 := (by decide +kernel : ∀ t : Fin grid0.N, t.val < 4) t

/-- The sliced length row at region entry. -/
theorem len_entry (c : Dev nD) (j : Fin 768) :
    (V m c main_call0_v3 : FVec Ideal S1x768 .f32) (ix2 (0 : Fin 1) j)
      = (m ((c : Thread nD τ).loc main_arg7) : FVec Ideal S257x768 .f32) (ix2 (0 : Fin 257) j) := by
  entry_read
  show extractStridedSlice S1x768 ![0, 0] (m ((c : Thread nD τ).loc main_arg7) : FVec Ideal S257x768 .f32)
    slices_S257x768_S1x768_0_0 (ix2 (0 : Fin 1) j) = _
  pointwise

/-- The transposed weight at region entry. -/
theorem weight_entry (c : Dev nD) (k : Fin 64) (j : Fin 768) :
    (V m c main_call0_v0 : FVec Ideal S64x768 .f32) (ix2 k j)
      = (m ((c : Thread nD τ).loc main_arg3) : FVec Ideal S768x64 .f32) (ix2 j k) := by
  entry_read
  show transpose S64x768 [1, 0] (m ((c : Thread nD τ).loc main_arg3) : FVec Ideal S768x64 .f32)
    transposes_S768x64_S64x768_1_0 (ix2 k j) = _
  pointwise

/-- At grid point `t` the loaded blocks are those of batch `t`. -/
theorem block (A : Cert.Row.Arrays) (c : Dev nD) (H : Holds m A c) (t : Fin cfg0.N) :
    Block A ⟨t.val, lt_four t⟩ (iblk m c 3 t) (iblk m c 5 t)
        (View.ld (iblk m c 4 t) (Rect.unit ![1, 0] ![1, 768] inb_S3x768_S1x768_1_0))
        (View.ld (iblk m c 4 t) (Rect.unit ![2, 0] ![1, 768] inb_S3x768_S1x768_2_0))
        (View.ld (iblk m c 4 t) (Rect.unit ![1, 0] ![1, 768] inb_S3x768_S1x768_1_0)) (iblk m c 2 t) (iblk m c 1 t)
        (iblk m c 0 t) (iblk m c 6 t) where
  bias j := by
    refine Eq.trans ?_ (H.bias j)
    blk_point [iblk, V, idx t]
  len j := by
    refine Eq.trans ?_ (H.len j)
    refine Eq.trans ?_ (len_entry m c j)
    blk_ext! [iblk, idx t]
  base j := by
    refine Eq.trans ?_ (H.dir 0 j)
    blk_point [iblk, V, idx t]
  top j := by
    refine Eq.trans ?_ (H.dir 1 j)
    blk_point [iblk, V, idx t]
  low j := by
    refine Eq.trans ?_ (H.dir 0 j)
    blk_point [iblk, V, idx t]
  weight k j := by
    refine Eq.trans ?_ (H.weight j k)
    refine Eq.trans ?_ (weight_entry m c k j)
    blk_ext! [iblk, idx t]
  strand s := by
    refine Eq.trans ?_ (H.strand _ s)
    blk_point [iblk, V, idx t]
  reps s k := by
    refine Eq.trans ?_ (H.reps _ s k)
    blk_point [iblk, V, idx t]
  pos s j := by
    refine Eq.trans ?_ (H.pos s j)
    blk_point [iblk, V, idx t]

/-- The block at grid point `t` is batch `t` of the result. -/
theorem place (A : Cert.Row.Arrays) (t : Fin cfg0.N) (s : Fin 4096) (d : Fin 768) :
    A.array (((cfg0.win 7).blk t).view.emb (ix3 (0 : Fin 1) s d)) = ((A.out ⟨t.val, lt_four t⟩ s d : ℝ) : EReal) := by
  have h : (((cfg0.win 7).blk t).view.emb (ix3 (0 : Fin 1) s d) : S4x4096x768.Idx) = ix3 (⟨t.val, lt_four t⟩ : Fin 4) s d := by
    blk_ext [idx t]
  rw [h]
  rfl

/-- What grid point `t` stores at a block index is the result at the index's place. -/
theorem point (A : Cert.Row.Arrays) (c : Dev nD) (H : Holds m A c) (t : Fin cfg0.N) (y : S1x4096x768.Idx) :
    k0_pay1 (F := Ideal) (k0_pay2 (iblk m c 3 t) (iblk m c 5 t)
        (View.ld (iblk m c 4 t) (Rect.unit ![1, 0] ![1, 768] inb_S3x768_S1x768_1_0))
        (View.ld (iblk m c 4 t) (Rect.unit ![2, 0] ![1, 768] inb_S3x768_S1x768_2_0))
        (View.ld (iblk m c 4 t) (Rect.unit ![1, 0] ![1, 768] inb_S3x768_S1x768_1_0)) (iblk m c 2 t) (iblk m c 1 t)
        (iblk m c 0 t) (iblk m c 6 t)) y = A.array (((cfg0.win 7).blk t).view.emb y) := by
  idx_vars y
  obtain rfl : y0 = 0 := Subsingleton.elim _ _
  refine Eq.trans ?_ (place A t y1 y2).symm
  exact norm_at _ y1 _ (fun j => emb_at A _ _ _ _ _ _ _ _ _ _ (block m A c H t) y1 j) y2

/-- The result array after the run is the array of normalized sums of embeddings. -/
theorem final (A : Cert.Row.Arrays) (c : Dev nD) (H : Holds m A c) : (dats m 0 c).arrAt 7 cfg0.N = A.array := by
  refine (dats m 0 c).arrAt_eq_of_covers 7 _ (by decide +kernel) fun t _ y => ?_
  blk_simp
  rw [after0_7]
  simp only [outsAt0]
  frame_out
  exact point m A c H t y

end Cert.KernelRow

end
-- ==== Proof.Gather.lean ====
/- `jnp.take` of a table's rows by a rectangle of row numbers, read at an index. Hand-written, untrusted. -/
module

public import Idealize.ShloMosaic.Lib.Pointwise

@[expose] public section

set_option maxRecDepth 16384

noncomputable section

namespace Cert.Rows

open Idealize.ShloMosaic

/-- An `[n, p, 1]` array of row numbers takes rows of an `[r, q]` table: where the row number at `(a, b, 0)` is `k < r`, entry
    `(a, b, y)` of the result is the table's entry `(k, y)`. -/
theorem take_rows {α : Type} {r q n p : Nat}
    (d : GatherDims ⟨2, ![r, q]⟩ ⟨3, ![n, p, 1]⟩ ⟨3, ![n, p, q]⟩) (hoff : d.offsetDims = [2])
    (hcoll : d.collapsedSliceDims = [0]) (hob : d.operandBatchingDims = []) (hsim : d.startIndexMap = [0])
    (hivd : d.indexVectorDim = 2) (x : (⟨2, ![r, q]⟩ : Shape).Idx → α) (idx : IVec ⟨3, ![n, p, 1]⟩ 32)
    (a : Fin n) (b : Fin p) (y : Fin q) (k : Fin r) (hk : (idx (ix3 a b (0 : Fin 1))).toInt = (k.val : Int)) :
    Host.gather d x idx (ix3 a b y) = x (ix2 k y) := by
  obtain ⟨off, coll, ob, sb, sim, ivd, ss, wf⟩ := d
  dsimp only at hoff hcoll hob hsim hivd
  subst hoff hcoll hob hsim hivd
  have hss : ss 0 = 1 := GatherDims.slice_collapsed ⟨[2], [0], [], sb, [0], 2, ss, wf⟩ 0 (List.mem_singleton.2 rfl)
  unfold Host.gather
  refine congrArg x (funext fun c => Fin.ext ?_)
  match c with
  | ⟨0, _⟩ =>
    have hi : GatherDims.siIdx ⟨[2], [0], [], sb, [0], 2, ss, wf⟩ (ix3 a b y) ⟨0, Nat.one_pos⟩ = ix3 a b (0 : Fin 1) := by
      funext e
      match e with
      | ⟨0, _⟩ => rfl
      | ⟨1, _⟩ => rfl
      | ⟨2, _⟩ => rfl
    show min (idx (GatherDims.siIdx ⟨[2], [0], [], sb, [0], 2, ss, wf⟩ (ix3 a b y) ⟨0, Nat.one_pos⟩)).toInt.toNat (r - ss 0) + 0 + 0 = k.val
    rw [hi, hk, hss]
    have := k.isLt
    omega
  | ⟨1, _⟩ =>
    show 0 + 0 + y.val = y.val
    omega

/-- An `[n, 1]` array of row numbers takes rows of an `[r, q]` table: where the row number at `(a, 0)` is `k < r`, entry
    `(a, y)` of the result is the table's entry `(k, y)`. -/
theorem take_rows_flat {α : Type} {r q n : Nat}
    (d : GatherDims ⟨2, ![r, q]⟩ ⟨2, ![n, 1]⟩ ⟨2, ![n, q]⟩) (hoff : d.offsetDims = [1])
    (hcoll : d.collapsedSliceDims = [0]) (hob : d.operandBatchingDims = []) (hsim : d.startIndexMap = [0])
    (hivd : d.indexVectorDim = 1) (x : (⟨2, ![r, q]⟩ : Shape).Idx → α) (idx : IVec ⟨2, ![n, 1]⟩ 32)
    (a : Fin n) (y : Fin q) (k : Fin r) (hk : (idx (ix2 a (0 : Fin 1))).toInt = (k.val : Int)) :
    Host.gather d x idx (ix2 a y) = x (ix2 k y) := by
  obtain ⟨off, coll, ob, sb, sim, ivd, ss, wf⟩ := d
  dsimp only at hoff hcoll hob hsim hivd
  subst hoff hcoll hob hsim hivd
  have hss : ss 0 = 1 := GatherDims.slice_collapsed ⟨[1], [0], [], sb, [0], 1, ss, wf⟩ 0 (List.mem_singleton.2 rfl)
  unfold Host.gather
  refine congrArg x (funext fun c => Fin.ext ?_)
  match c with
  | ⟨0, _⟩ =>
    have hi : GatherDims.siIdx ⟨[1], [0], [], sb, [0], 1, ss, wf⟩ (ix2 a y) ⟨0, Nat.one_pos⟩ = ix2 a (0 : Fin 1) := by
      funext e
      match e with
      | ⟨0, _⟩ => rfl
      | ⟨1, _⟩ => rfl
    show min (idx (GatherDims.siIdx ⟨[1], [0], [], sb, [0], 1, ss, wf⟩ (ix2 a y) ⟨0, Nat.one_pos⟩)).toInt.toNat (r - ss 0) + 0 + 0 = k.val
    rw [hi, hk, hss]
    have := k.isLt
    omega
  | ⟨1, _⟩ =>
    show 0 + 0 + y.val = y.val
    omega

end Cert.Rows

end
-- ==== Proof.RefIndex.lean ====
/- The reference's three row numbers and their range masks, read at an index. Hand-written, untrusted. -/
module

public import proofs.«01_k».proof.Proof.Gen.ReferenceIdeal.Run
public import proofs.«01_k».proof.Proof.Gather
public import Idealize.ShloMosaic.Lib.Pointwise
public import Idealize.ShloMosaic.Lib.ReduceAll
public import Idealize.ShloMosaic.Lib.Tactic.CleanTypes
public import Idealize.ShloMosaic.Lib.Tactic.WordOmega

@[expose] public section

set_option maxRecDepth 16384

noncomputable section

namespace Cert.RefIndex

open Idealize.ShloMosaic Idealize.ShloMosaic.TcCoe Idealize.SL.Sem Idealize.ShloMosaic.StableHlo Cert.ReferenceIdeal Cert.ReferenceIdeal.Gen Cert.ReferenceIdeal.Value

variable (L : Valuation τ sig (Elt Ideal))

/-- The strands as an array of words. -/
abbrev strands : IVec S4x4096 32 := L (Proc.devRef .tc main_arg1)

/-- A small number's word reads back as the number in the signed order. -/
theorem toInt_small (n : ℕ) (h : n < 2 ^ 31) : (BitVec.ofNat 32 n).toInt = (n : Int) := by
  rw [BitVec.toInt_eq_toNat_cond, BitVec.toNat_ofNat, Nat.mod_eq_of_lt (by omega), if_pos (by omega)]

/-- The direction table's row number is the strand plus one. -/
theorem dir_row (b : Fin 4) (s : Fin 4096) (h : strands L (ix2 b s) = 0#32 ∨ strands L (ix2 b s) = 1#32) :
    res_main_call0_v5 (F := Ideal) L (ix3 b s (0 : Fin 1)) = strands L (ix2 b s) + 1#32 := by
  unfold res_main_call0_v5 res_main_v6
  clean_types
  pointwise
  rcases h with h | h <;> simp only [strands] at h ⊢ <;> rw [h] <;> decide +kernel

/-- The length table's row number is zero. -/
theorem len_row (b : Fin 4) (s : Fin 4096) (h : strands L (ix2 b s) = 0#32 ∨ strands L (ix2 b s) = 1#32) :
    res_main_call3_v5 (F := Ideal) L (ix3 b s (0 : Fin 1)) = 0#32 := by
  unfold res_main_call3_v5 res_main_v9 res_main_call2_v2 res_main_call2_v0 res_main_v8
  clean_types
  pointwise
  rcases h with h | h <;> simp only [strands] at h ⊢ <;> rw [h] <;> decide +kernel

/-- The position table's row number is the position. -/
theorem pos_row (s : Fin 4096) :
    res_main_call4_v5 (F := Ideal) L (ix2 s (0 : Fin 1)) = BitVec.ofNat 32 s.val := by
  unfold res_main_call4_v5 res_main_v13
  clean_types
  pointwise
  have h : ¬ IntOp.cmpi .slt (BitVec.ofNat 32 s.val) 0#32 = 1#1 := by
    rw [IntOp.cmpi_slt, toInt_small s.val (by omega)]
    have e0 : (0#32 : BitVec 32).toInt = 0 := by decide
    omega
  exact if_neg h

/-- A fold by `and` over one axis of extent 1 is true when its one word is. -/
theorem fold_mask (f : Fin 1 → BitVec 1) (hf : ∀ x, f x = 1#1) : Finset.fold IntOp.andi (1#1) f Finset.univ = 1#1 := by
  rw [Finset.univ_unique, Finset.fold_singleton, hf]
  decide

/-- The direction rows are in the table's range: at least 0 and at most 2. -/
theorem dir_mask (b : Fin 4) (s : Fin 4096) (h : strands L (ix2 b s) = 0#32 ∨ strands L (ix2 b s) = 1#32) (x : Fin 1) :
    IntOp.andi (IntOp.cmpi .sge (res_main_call0_v5 (F := Ideal) L (ix3 b s x)) 0#32)
      (IntOp.cmpi .sle (res_main_call0_v5 (F := Ideal) L (ix3 b s x)) 2#32) = 1#1 := by
  obtain rfl : x = 0 := Subsingleton.elim _ _
  rw [dir_row L b s h]
  rcases h with e | e <;> rw [e] <;> decide +kernel

/-- The length rows are in the table's range: every one is 0. -/
theorem len_mask (b : Fin 4) (s : Fin 4096) (h : strands L (ix2 b s) = 0#32 ∨ strands L (ix2 b s) = 1#32) (x : Fin 1) :
    IntOp.andi (IntOp.cmpi .sge (res_main_call3_v5 (F := Ideal) L (ix3 b s x)) 0#32)
      (IntOp.cmpi .sle (res_main_call3_v5 (F := Ideal) L (ix3 b s x)) 256#32) = 1#1 := by
  obtain rfl : x = 0 := Subsingleton.elim _ _
  rw [len_row L b s h]
  decide +kernel

/-- The position rows are in the table's range: every position is below the table's height. -/
theorem pos_mask (s : Fin 4096) (x : Fin 1) :
    IntOp.andi (IntOp.cmpi .sge (res_main_call4_v5 (F := Ideal) L (ix2 s x)) 0#32)
      (IntOp.cmpi .sle (res_main_call4_v5 (F := Ideal) L (ix2 s x)) 8191#32) = 1#1 := by
  obtain rfl : x = 0 := Subsingleton.elim _ _
  have hlt := s.isLt
  rw [pos_row L s, IntOp.andi_eq_one, IntOp.cmpi_sge, IntOp.cmpi_sle, toInt_small s.val (by omega)]
  have e0 : (0#32 : BitVec 32).toInt = 0 := by decide
  have e1 : (8191#32 : BitVec 32).toInt = 8191 := by decide
  omega

/-- The direction table's taken row at an index: row 1 for strand 0, row 2 for strand 1. -/
theorem dir_take (b : Fin 4) (s : Fin 4096) (d : Fin 768) (k : Fin 2)
    (h : strands L (ix2 b s) = BitVec.ofNat 32 k.val) (x : FVec Ideal S3x768 .f32) :
    Host.gather gather_S3x768_S4x4096x1_S4x4096x768_2_0_n_n_0_2_1768 x (res_main_call0_v5 (F := Ideal) L) (ix3 b s d)
      = x (ix2 (⟨k.val + 1, by omega⟩ : Fin 3) d) := by
  refine Cert.Rows.take_rows _ rfl rfl rfl rfl rfl x _ b s d _ ?_
  have h2 : strands L (ix2 b s) = 0#32 ∨ strands L (ix2 b s) = 1#32 := by
    rw [h]; clear h; revert k; decide
  rw [dir_row L b s h2, h]
  clear h h2; revert k; decide

/-- The length table's taken row at an index is row 0. -/
theorem len_take (b : Fin 4) (s : Fin 4096) (d : Fin 768)
    (h : strands L (ix2 b s) = 0#32 ∨ strands L (ix2 b s) = 1#32) (x : FVec Ideal S257x768 .f32) :
    Host.gather gather_S257x768_S4x4096x1_S4x4096x768_2_0_n_n_0_2_1768 x (res_main_call3_v5 (F := Ideal) L) (ix3 b s d)
      = x (ix2 (0 : Fin 257) d) := by
  refine Cert.Rows.take_rows _ rfl rfl rfl rfl rfl x _ b s d _ ?_
  rw [len_row L b s h]
  decide

/-- The position table's taken row at a position is the row of that number. -/
theorem pos_take (s : Fin 4096) (d : Fin 768) (x : FVec Ideal S8192x768 .f32) :
    Host.gather gather_S8192x768_S4096x1_S4096x768_1_0_n_n_0_1_1768 x (res_main_call4_v5 (F := Ideal) L) (ix2 s d)
      = x (ix2 (⟨s.val, by omega⟩ : Fin 8192) d) := by
  refine Cert.Rows.take_rows_flat _ rfl rfl rfl rfl rfl x _ s d _ ?_
  have hlt := s.isLt
  rw [pos_row L s, toInt_small s.val (by omega)]

end Cert.RefIndex

end
-- ==== Proof.RefValue.lean ====
/- The reference's result read at an index, for arguments that are real where they are read. Hand-written, untrusted. -/
module

public import proofs.«01_k».proof.Proof.RefIndex
public import proofs.«01_k».proof.Proof.Arrays

@[expose] public section

set_option maxRecDepth 16384

noncomputable section

namespace Cert.RefValue

open Idealize.ShloMosaic Idealize.ShloMosaic.TcCoe Idealize.SL.Sem Idealize.ShloMosaic.StableHlo Cert.ReferenceIdeal Cert.ReferenceIdeal.Gen Cert.ReferenceIdeal.Value
open Cert.RefIndex

variable (L : Valuation τ sig (Elt Ideal))

/-- The reference's result as one term of the contents at launch. -/
abbrev result : FVec Ideal S4x4096x768 .f32 :=
  addf (mulf (Host.divf (subf (res_main_v17 L) (broadcastInDim S4x4096x768 ![0, 1, 2] bcast_S4x4096x1_S4x4096x768_0_1_2 (res_main_v21 L))) (broadcastInDim S4x4096x768 ![0, 1, 2] bcast_S4x4096x1_S4x4096x768_0_1_2 (Host.sqrt (addf (Host.divf (broadcastInDim S4x4096x1 ![0, 1] bcast_S4x4096_S4x4096x1_0_1 (Host.reduceAdd (mulf (res_main_v23 L) (res_main_v23 L)) (constant S_ .f32 0x00000000#32) reducesTo_S4x4096x768_S4x4096_d2 h_S_)) (broadcastInDim S4x4096x1 ![] bcast_S_S4x4096x1 (constant S_ .f32 0x44400000#32))) (broadcastInDim S4x4096x1 ![] bcast_S_S4x4096x1 (constant S_ .f32 0x2B8CBCCC#32)))))) (broadcastInDim S4x4096x768 ![0, 1, 2] bcast_S1x1x768_S4x4096x768_0_1_2 (broadcastInDim S1x1x768 ![2] bcast_S768_S1x1x768_2 (L (Proc.devRef .tc main_arg8))))) (broadcastInDim S4x4096x768 ![0, 1, 2] bcast_S1x1x768_S4x4096x768_0_1_2 (broadcastInDim S1x1x768 ![2] bcast_S768_S1x1x768_2 (L (Proc.devRef .tc main_arg9))))

/-- The launch contents hold the real arrays. -/
abbrev Holds (A : Cert.Row.Arrays) : Prop :=
  Cert.Row.Reads A (L (Proc.devRef .tc main_arg0)) (L (Proc.devRef .tc main_arg1)) (L (Proc.devRef .tc main_arg3))
    (L (Proc.devRef .tc main_arg4)) (L (Proc.devRef .tc main_arg5)) (L (Proc.devRef .tc main_arg6))
    (L (Proc.devRef .tc main_arg7)) (L (Proc.devRef .tc main_arg8)) (L (Proc.devRef .tc main_arg9))

/-- The sum of embeddings at an index. -/
theorem emb_at (A : Cert.Row.Arrays) (H : Holds L A) (b : Fin 4) (s : Fin 4096) (d : Fin 768) :
    res_main_v17 (F := Ideal) L (ix3 b s d) = ((A.emb b s d : ℝ) : EReal) := by
  have h : strands L (ix2 b s) = 0#32 ∨ strands L (ix2 b s) = 1#32 := by
    rw [show strands L (ix2 b s) = _ from H.strand b s]
    generalize A.t b s = k
    revert k; decide
  unfold res_main_v17
  clean_types
  pointwise
  rw [fold_mask _ (dir_mask L b s h), fold_mask _ (len_mask L b s h), fold_mask _ (pos_mask L s),
    dir_take L b s d (A.t b s) (H.strand b s), len_take L b s d h, pos_take L s d, H.dir, H.len, H.pos, H.bias]
  simp only [H.reps, H.weight]
  exact Cert.Row.ref_emb A b s d

/-- The result at an index. -/
theorem result_at (A : Cert.Row.Arrays) (H : Holds L A) (b : Fin 4) (s : Fin 4096) (d : Fin 768) :
    result L (ix3 b s d) = ((A.out b s d : ℝ) : EReal) := by
  unfold result res_main_v23 res_main_v21
  clean_types
  pointwise
  simp only [emb_at L A H]
  exact Cert.Row.reference_form (A.emb b s) d _ _ _ _ Cert.Row.pattern_768 Cert.Row.pattern_eps (H.scale d) (H.shift d)

/-- The result is the array of normalized sums of embeddings. -/
theorem result_eq (A : Cert.Row.Arrays) (H : Holds L A) : result L = A.array := by
  funext j
  idx_vars j
  exact result_at L A H _ _ _

end Cert.RefValue

end
-- ==== Proof.Pre.lean ====
/- The precondition `drawn` read back: what it says of the argument arrays, element by element. Hand-written, untrusted. -/
module

public import proofs.«01_k».proof.Pre_drawn
public import proofs.«01_k».proof.Proof.Gen.Pre_drawn
public import proofs.«01_k».proof.Proof.Arrays
public import Idealize.ShloMosaic.Lib.ReduceAll
public import Idealize.ShloMosaic.Lib.IdealHost
public import Idealize.ShloMosaic.Lib.Pointwise

@[expose] public section

set_option maxRecDepth 16384

noncomputable section

namespace Cert.Drawn

open Idealize.ShloMosaic Cert.Pre_drawn Cert.Pre_drawn.Gen

/-- The shape of a scalar has one index. -/
instance scalar_subsingleton : Subsingleton (Cert.Pre_drawn.S_).Idx := ⟨fun a b => funext fun k => k.elim0⟩

/-- The pattern of positive infinity denotes it. -/
theorem pattern_top : Ideal.ofBits .f32 0x7F800000#32 = (⊤ : EReal) := by simp [Ideal.ofBits, Ideal.ieee]

/-- An extended real whose absolute value is below infinity is a real. -/
theorem real_of_abs_lt (x : EReal) (h : max x (-x) < ⊤) : ∃ r : ℝ, x = ((r : ℝ) : EReal) := by
  induction x with
  | bot => simp at h
  | top => simp at h
  | coe r => exact ⟨r, rfl⟩

/-- A comparison `|x| < ∞` that came out 1 says that `x` is a real. -/
theorem real_of_cmp (x : EReal) (h : Ideal.cmp .olt (max x (-x)) (Ideal.ofBits .f32 0x7F800000#32) = 1#1) :
    ∃ r : ℝ, x = ((r : ℝ) : EReal) := by
  rw [pattern_top] at h
  refine real_of_abs_lt x ?_
  by_contra hc
  simp [Ideal.cmp, hc] at h

/-- An equality comparison that came out 1 says that the two are equal. -/
theorem eq_of_cmp (x y : EReal) (h : Ideal.cmp .oeq x y = 1#1) : x = y := by
  by_contra hc
  simp [Ideal.cmp, hc] at h

/-- A word between 0 and 1 in the signed order is 0 or 1. -/
theorem zero_or_one (v : BitVec 32) (h0 : IntOp.cmpi .sge v 0#32 = 1#1) (h1 : IntOp.cmpi .sle v 1#32 = 1#1) :
    v = 0#32 ∨ v = 1#32 := by
  have a := IntOp.cmpi_sge.1 h0
  have b := IntOp.cmpi_sle.1 h1
  have e0 : (0#32 : BitVec 32).toInt = 0 := by decide
  have e1 : (1#32 : BitVec 32).toInt = 1 := by decide
  rw [e0] at a; rw [e1] at b
  rcases (by omega : v.toInt = 0 ∨ v.toInt = 1) with e | e
  · left; exact BitVec.eq_of_toInt_eq (e.trans e0.symm)
  · right; exact BitVec.eq_of_toInt_eq (e.trans e1.symm)

/-- The precondition read back: strands are 0 or 1, the scale is 1 and the shift 0, the floats that are read are reals. -/
theorem reads (x : FVec Ideal S4x4096x64 .f32) (s t : IVec S4x4096 32) (w : FVec Ideal S768x64 .f32)
    (b : FVec Ideal S768 .f32) (p : FVec Ideal S8192x768 .f32) (d : FVec Ideal S3x768 .f32) (l : FVec Ideal S257x768 .f32)
    (g : FVec Ideal S768 .f32) (h : FVec Ideal S768 .f32)
    (hp : Cert.Pre_drawn.fn (F := Ideal) x s t w b p d l g h = fun _ => 1#1) :
    ∃ A : Cert.Row.Arrays, Cert.Row.Reads A x s w b p d l g h := by
  have hp := congrFun hp ix0
  dsimp only [Cert.Pre_drawn.fn, Cert.Pre_drawn.fn_part1, Cert.Pre_drawn.fn_part2, andi] at hp
  simp only [IntOp.andi_eq_one] at hp
  obtain ⟨⟨⟨⟨⟨⟨⟨⟨⟨h1, h2⟩, h3⟩, h4⟩, h5⟩, h6⟩, h7⟩, h8⟩, h9⟩, h10⟩ := hp
  have e1 : ∀ i j, ∃ k : Fin 2, s (ix2 i j) = BitVec.ofNat 32 k.val := fun i j => by
    rcases zero_or_one _ (Host.reduce_andi_all _ _ _ _ _ h1 (ix2 i j)) (Host.reduce_andi_all _ _ _ _ _ h2 (ix2 i j)) with e | e
    · exact ⟨0, e⟩
    · exact ⟨1, e⟩
  have e3 : ∀ j, g (ix1 j) = 1 := fun j =>
    (eq_of_cmp _ _ (Host.reduce_andi_all _ _ _ _ _ h3 (ix1 j))).trans Ideal.ofBits_one_f32
  have e4 : ∀ j, h (ix1 j) = 0 := fun j =>
    (eq_of_cmp _ _ (Host.reduce_andi_all _ _ _ _ _ h4 (ix1 j))).trans Ideal.ofBits_zero_f32
  have e5 : ∀ i j k, ∃ r : ℝ, x (ix3 i j k) = ((r : ℝ) : EReal) := fun i j k =>
    real_of_cmp _ (Host.reduce_andi_all _ _ _ _ _ h5 (ix3 i j k))
  have e6 : ∀ i j, ∃ r : ℝ, w (ix2 i j) = ((r : ℝ) : EReal) := fun i j =>
    real_of_cmp _ (Host.reduce_andi_all _ _ _ _ _ h6 (ix2 i j))
  have e7 : ∀ j, ∃ r : ℝ, b (ix1 j) = ((r : ℝ) : EReal) := fun j =>
    real_of_cmp _ (Host.reduce_andi_all _ _ _ _ _ h7 (ix1 j))
  have e8 : ∀ (i : Fin 4096) k, ∃ r : ℝ, p (ix2 (⟨i.val, by omega⟩ : Fin 8192) k) = ((r : ℝ) : EReal) := fun i k => by
    obtain ⟨r, hr⟩ := real_of_cmp _ (Host.reduce_andi_all _ _ _ _ _ h8 (ix2 i k))
    refine ⟨r, Eq.trans ?_ hr⟩
    pointwise
  have e9 : ∀ (i : Fin 2) k, ∃ r : ℝ, d (ix2 (⟨i.val + 1, by omega⟩ : Fin 3) k) = ((r : ℝ) : EReal) := fun i k => by
    obtain ⟨r, hr⟩ := real_of_cmp _ (Host.reduce_andi_all _ _ _ _ _ h9 (ix2 i k))
    refine ⟨r, Eq.trans ?_ hr⟩
    pointwise
    exact congrArg (fun a => d (ix2 a k)) (Fin.ext (Nat.add_comm _ _))
  have e10 : ∀ k, ∃ r : ℝ, l (ix2 (0 : Fin 257) k) = ((r : ℝ) : EReal) := fun k => by
    obtain ⟨r, hr⟩ := real_of_cmp _ (Host.reduce_andi_all _ _ _ _ _ h10 (ix2 (0 : Fin 1) k))
    refine ⟨r, Eq.trans ?_ hr⟩
    pointwise
  choose At ht using e1
  choose Ax hx using e5
  choose Aw hw using e6
  choose Ab hb using e7
  choose Ap hpos using e8
  choose Ad hd using e9
  choose Al hl using e10
  exact ⟨⟨Ax, At, Aw, Ab, Ap, Ad, Al⟩, ⟨hx, ht, hw, hb, hpos, hd, hl, e3, e4⟩⟩

end Cert.Drawn

end
-- ==== Proof.Claims.lean ====
/- The claims: the frames of the three programs, the kernel's idealization, and the equality of the results. Hand-written,
   untrusted. -/
module

public import proofs.«01_k».proof.Defs
public import proofs.«01_k».proof.Proof.Gen.Kernel.Frame
public import proofs.«01_k».proof.Proof.KernelRow
public import proofs.«01_k».proof.Proof.RefValue
public import proofs.«01_k».proof.Proof.Pre
public import Idealize.ShloMosaic.Lib.Quiescent

@[expose] public section

set_option maxRecDepth 16384

noncomputable section

namespace Cert.Claims

open Idealize.ShloMosaic Idealize.ShloMosaic.TcCoe Idealize.SL.Sem

/-- Every run of the kernel ends with its arguments unchanged and its counters at zero. -/
theorem kernel_frame : Cert.quiescent_Kernel := fun m ρ _ => Cert.Kernel.Gen.frame m ρ

/-- The same of the idealized kernel. -/
theorem ideal_frame : Cert.quiescent_KernelIdeal := fun m ρ _ => Cert.KernelIdeal.Gen.frame m ρ

/-- The same under the precondition. -/
theorem ideal_frame_drawn : Cert.quiescent_KernelIdeal_pre_drawn := fun m ρ _ => Cert.KernelIdeal.Gen.frame m ρ

/-- The reference keeps its arguments; it has no counters. -/
theorem ref_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The same under the precondition. -/
theorem ref_frame_drawn : Cert.quiescent_ReferenceIdeal_pre_drawn := fun m ρ _ => ref_frame m ρ trivial

/-- The idealized kernel differs from the kernel in the one named constant only. -/
theorem named : Cert.preserves_Kernel_KernelIdeal :=
  IdealRules.named_const.statement Cert.KernelIdeal.κ "inv_dh" .f32 0x3AAAAAAB#32 ((768⁻¹ : ℝ) : EReal) rfl

/-- On arguments that agree and meet the precondition both results are the array of normalized sums of embeddings. -/
theorem equal : Cert.algebraic_KernelIdeal_ReferenceIdeal_pre_drawn := by
  intro m ρ m' ρ' hpre hagree
  have hA : ∀ c, ∃ A : Cert.Row.Arrays, Cert.KernelRow.Holds m A c := fun c => Cert.Drawn.reads _ _ _ _ _ _ _ _ _ _ (hpre c)
  choose A H using hA
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  refine Eq.trans ?_ (Cert.KernelRow.final m (A c) c (H c)).symm
  refine Cert.RefValue.result_eq _ (A c) ?_
  obtain ⟨h0, h1, -, h3, h4, h5, h6, h7, h8, h9⟩ := hagree c
  have K := H c
  unfold Cert.KernelRow.Holds at K
  rw [← h0, ← h1, ← h3, ← h4, ← h5, ← h6, ← h7, ← h8, ← h9] at K
  exact K

end Cert.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_drawn
public import proofs.«01_k».proof.Proof.Gen.KernelIdeal.Value
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_drawn.Gen.facts,
  Cert.Claims.kernel_frame, Cert.Claims.ideal_frame, Cert.Claims.ideal_frame_drawn, Cert.Claims.ref_frame,
  Cert.Claims.ref_frame_drawn, Cert.Claims.named, Cert.Claims.equal⟩

end Cert.Proof

end
